-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S1x1 : Shape := ⟨2, ![1, 1]⟩
abbrev S8x32768 : Shape := ⟨2, ![8, 32768]⟩
abbrev S8x8192 : Shape := ⟨2, ![8, 8192]⟩
abbrev S8 : Shape := ⟨1, ![8]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 0
  | .smem => 1
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S1x1, .f32⟩
  | .hbm, ⟨3, _⟩ => ⟨S_, .f32⟩
  | .local _ .smem, ⟨0, _⟩ => ⟨S1x1, .f32⟩
  | _, _ => ⟨S128x32768, .f32⟩

abbrev bufScoped : (cs : CoreSpace) → Fin (nBuf (.core cs)) → Bool
  | .smem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S32767 : Shape := ⟨1, ![32767]⟩
abbrev S1 : Shape := ⟨1, ![1]⟩
abbrev S32768 : Shape := ⟨1, ![32768]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S_, .f32⟩
  | .hbm, ⟨5, _⟩ => ⟨S_, .f32⟩
  | .hbm, ⟨6, _⟩ => ⟨S128x32768, .f32⟩
  | .hbm, ⟨7, _⟩ => ⟨S_, .f32⟩
  | .hbm, ⟨8, _⟩ => ⟨S_, .f32⟩
  | .hbm, ⟨9, _⟩ => ⟨S128x32768, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32767, .f32⟩
  | .hbm, ⟨18, _⟩ => ⟨S_, .f32⟩
  | .hbm, ⟨19, _⟩ => ⟨S32767, .f32⟩
  | .hbm, ⟨20, _⟩ => ⟨S32767, .f32⟩
  | .hbm, ⟨21, _⟩ => ⟨S1, .f32⟩
  | .hbm, ⟨22, _⟩ => ⟨S_, .f32⟩
  | .hbm, ⟨23, _⟩ => ⟨S32767, .f32⟩
  | .hbm, ⟨24, _⟩ => ⟨S32767, .f32⟩
  | .hbm, ⟨25, _⟩ => ⟨S32767, .f32⟩
  | .hbm, ⟨26, _⟩ => ⟨S32767, .f32⟩
  | .hbm, ⟨27, _⟩ => ⟨S1, .f32⟩
  | .hbm, ⟨28, _⟩ => ⟨S32767, .f32⟩
  | .hbm, ⟨29, _⟩ => ⟨S32767, .f32⟩
  | .hbm, ⟨30, _⟩ => ⟨S32767, .f32⟩
  | .hbm, ⟨31, _⟩ => ⟨S1, .f32⟩
  | .hbm, ⟨32, _⟩ => ⟨S32768, .f32⟩
  | .hbm, ⟨33, _⟩ => ⟨S128x32768, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32767, .f32⟩
  | .hbm, ⟨42, _⟩ => ⟨S_, .f32⟩
  | .hbm, ⟨43, _⟩ => ⟨S32767, .f32⟩
  | .hbm, ⟨44, _⟩ => ⟨S32767, .f32⟩
  | .hbm, ⟨45, _⟩ => ⟨S1, .f32⟩
  | .hbm, ⟨46, _⟩ => ⟨S_, .f32⟩
  | .hbm, ⟨47, _⟩ => ⟨S32767, .f32⟩
  | .hbm, ⟨48, _⟩ => ⟨S32767, .f32⟩
  | .hbm, ⟨49, _⟩ => ⟨S32767, .f32⟩
  | .hbm, ⟨50, _⟩ => ⟨S32767, .f32⟩
  | .hbm, ⟨51, _⟩ => ⟨S1, .f32⟩
  | .hbm, ⟨52, _⟩ => ⟨S32767, .f32⟩
  | .hbm, ⟨53, _⟩ => ⟨S32767, .f32⟩
  | .hbm, ⟨54, _⟩ => ⟨S32767, .f32⟩
  | .hbm, ⟨55, _⟩ => ⟨S1, .f32⟩
  | .hbm, ⟨56, _⟩ => ⟨S32768, .f32⟩
  | .hbm, ⟨57, _⟩ => ⟨S128x32768, .f32⟩
  | .hbm, ⟨58, _⟩ => ⟨S128x32768, .f32⟩
  | .hbm, ⟨59, _⟩ => ⟨S128x32768, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call2_call0_cst : Ref sig .tc := ⟨.hbm, 4, rfl⟩
abbrev main_call2_call0_v0 : Ref sig .tc := ⟨.hbm, 5, rfl⟩
abbrev main_v2 : Ref sig .tc := ⟨.hbm, 6, rfl⟩
abbrev main_call3_call0_cst : Ref sig .tc := ⟨.hbm, 7, rfl⟩
abbrev main_call3_call0_v0 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_call4_v0 : Ref sig .tc := ⟨.hbm, 12, rfl⟩
abbrev main_call4_v1 : Ref sig .tc := ⟨.hbm, 13, rfl⟩
abbrev main_call4_v2 : Ref sig .tc := ⟨.hbm, 14, rfl⟩
abbrev main_call4_cst : Ref sig .tc := ⟨.hbm, 15, rfl⟩
abbrev main_call4_v3 : Ref sig .tc := ⟨.hbm, 16, rfl⟩
abbrev main_call4_v4 : Ref sig .tc := ⟨.hbm, 17, rfl⟩
abbrev main_call4_cst_0 : Ref sig .tc := ⟨.hbm, 18, rfl⟩
abbrev main_call4_v5 : Ref sig .tc := ⟨.hbm, 19, rfl⟩
abbrev main_call4_v6 : Ref sig .tc := ⟨.hbm, 20, rfl⟩
abbrev main_call4_v7 : Ref sig .tc := ⟨.hbm, 21, rfl⟩
abbrev main_call4_cst_1 : Ref sig .tc := ⟨.hbm, 22, rfl⟩
abbrev main_call4_v8 : Ref sig .tc := ⟨.hbm, 23, rfl⟩
abbrev main_call4_v9 : Ref sig .tc := ⟨.hbm, 24, rfl⟩
abbrev main_call4_v10 : Ref sig .tc := ⟨.hbm, 25, rfl⟩
abbrev main_call4_v11 : Ref sig .tc := ⟨.hbm, 26, rfl⟩
abbrev main_call4_v12 : Ref sig .tc := ⟨.hbm, 27, rfl⟩
abbrev main_call4_v13 : Ref sig .tc := ⟨.hbm, 28, rfl⟩
abbrev main_call4_v14 : Ref sig .tc := ⟨.hbm, 29, rfl⟩
abbrev main_call4_v15 : Ref sig .tc := ⟨.hbm, 30, rfl⟩
abbrev main_call4_v16 : Ref sig .tc := ⟨.hbm, 31, rfl⟩
abbrev main_v4 : Ref sig .tc := ⟨.hbm, 32, rfl⟩
abbrev main_v5 : Ref sig .tc := ⟨.hbm, 33, rfl⟩
abbrev main_cst_1 : Ref sig .tc := ⟨.hbm, 34, rfl⟩
abbrev main_cst_2 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_cst : Ref sig .tc := ⟨.hbm, 39, rfl⟩
abbrev main_call5_v3 : Ref sig .tc := ⟨.hbm, 40, rfl⟩
abbrev main_call5_v4 : Ref sig .tc := ⟨.hbm, 41, rfl⟩
abbrev main_call5_cst_0 : Ref sig .tc := ⟨.hbm, 42, rfl⟩
abbrev main_call5_v5 : Ref sig .tc := ⟨.hbm, 43, rfl⟩
abbrev main_call5_v6 : Ref sig .tc := ⟨.hbm, 44, rfl⟩
abbrev main_call5_v7 : Ref sig .tc := ⟨.hbm, 45, rfl⟩
abbrev main_call5_cst_1 : Ref sig .tc := ⟨.hbm, 46, rfl⟩
abbrev main_call5_v8 : Ref sig .tc := ⟨.hbm, 47, rfl⟩
abbrev main_call5_v9 : Ref sig .tc := ⟨.hbm, 48, rfl⟩
abbrev main_call5_v10 : Ref sig .tc := ⟨.hbm, 49, rfl⟩
abbrev main_call5_v11 : Ref sig .tc := ⟨.hbm, 50, rfl⟩
abbrev main_call5_v12 : Ref sig .tc := ⟨.hbm, 51, rfl⟩
abbrev main_call5_v13 : Ref sig .tc := ⟨.hbm, 52, rfl⟩
abbrev main_call5_v14 : Ref sig .tc := ⟨.hbm, 53, rfl⟩
abbrev main_call5_v15 : Ref sig .tc := ⟨.hbm, 54, rfl⟩
abbrev main_call5_v16 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst_3 : Ref sig .tc := ⟨.hbm, 60, rfl⟩
abbrev main_v10 : Ref sig .tc := ⟨.hbm, 61, rfl⟩
abbrev main_v11 : Ref sig .tc := ⟨.hbm, 62, rfl⟩
abbrev main_cst_4 : Ref sig .tc := ⟨.hbm, 63, rfl⟩
abbrev main_v12 : Ref sig .tc := ⟨.hbm, 64, rfl⟩
abbrev main_cst_5 : Ref sig .tc := ⟨.hbm, 65, rfl⟩
abbrev main_v13 : Ref sig .tc := ⟨.hbm, 66, rfl⟩

abbrev nD : Nat := 1
abbrev τ : Topo := Topo.v7x

variable {F : FTy → Type} [FloatOps F]
-- ==== Proof.IdealFrame.lean ====
/- The kernel's launch, for any reading of floats: what its one grid point leaves in the output block, that the body
   meets the pipeline's obligation with it, and the run of the whole program. The kernel reads no argument, so
   what the body leaves depends on no memory. -/
module

public import proofs.«01_k».proof.Proof.Gen.KernelIdeal.Frame.RunA
public import Idealize.ShloMosaic.Lib.Claim

@[expose] public section

set_option maxRecDepth 16384

noncomputable section

namespace Cert.Proof.IdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The body's one store covers the output block. -/
theorem store_covers (c : Dev nD) (o : Memref sig .tc .smem S1x1 .f32) (ho : o.IsWhole) (y : S1x1.Idx) :
    ∃ pc ∈ (kernelRun0_A (F := F) c o ho).1, y ∈ pc.1.set :=
  View.cover_of_tiledL (kernelRun0_A c o ho).1 S1x1.size (by sl_kernel_rfl) y

/-- What the body leaves in the output block at point `t`. -/
def left (c : Dev nD) (t : Fin cfg0.N) : Vec F S1x1 .f32 :=
  VO0_0.read (Elt F) (VO0_0.writes (Elt F) VO0_0.junk (kernelRun0_A c (ms0_0 t) (hs0_0 t)).1)

variable (m : (ℓ : Loc nD τ sig) → Buf (Elt F) ℓ) (ρ : Dev nD → PrngReg)

/-- The pipeline's proof data: the result array as the launch finds it, and the output block after the body. -/
def dats (_ : Fin 1) (c : Dev nD) : Dat τ (Elt F) Unit ℕ (UR sig nD τ) ℕ cfg0 c where
  A w := V m c (Pipeline.arrRef spec0 w)
  after w t := match w with
    | ⟨0, _⟩ => left c t
  Φ _ := Pipeline.ΦA spec0 c
  q _ := fullShare
  owed _ := 0

/-- The arrays of the proof data are those that the launch finds. -/
theorem dats_A (c : Dev nD) (w : Fin cfg0.W) : (dats m 0 c).A w = V m c (Pipeline.arrRef spec0 w) := by
  dsimp only [dats]

/-- After the body the output block is at what the body leaves. -/
theorem dats_after (c : Dev nD) (t : Fin cfg0.N) : (dats m 0 c).after 0 t = left c t := by dsimp only [dats]

/-- The body, run on the output block at any contents, leaves it at `left`. -/
theorem body_step (c : Dev nD) (t : Fin cfg0.N) :
    iprop((dats m 0 c).Φ t.castSucc ∗ (dats m 0 c).owesAt () t.castSucc
        ∗ (∃ d, owns (c : Thread nD τ) (ms0_0 t) fullShare ((dats m 0 c).before 0 t d)))
      ⊢ (wp frame (wpE (defs₀ (F := F)) Variants.none c none) Set.univ (bodyAt0 t) fun _ =>
          iprop((dats m 0 c).Φ t.castSucc ∗ (dats m 0 c).owesAt () t.castSucc
            ∗ owns (c : Thread nD τ) (ms0_0 t) fullShare (left c t)) : sProp 𝕄) := by
  unfold bodyAt0 left
  iintro ⟨HΦ, Ho, ⟨%d, H⟩⟩
  iapply ((kernelRun0_A c _ _).2 Set.univ _)
  isplitl [H]; · iexists _; iexact H
  iintro ⟨⟨%e, H⟩⟩
  isplitl [HΦ]; · iexact HΦ
  isplitl [Ho]; · iexact Ho
  unfold owns; iexists _; isplitr
  swap; · iexact H
  ipureintro; exact View.read_writes_of_cover _ _ _ _ _ (store_covers c _ _)

/-- The obligation that the pipeline asks of the body, at every point. -/
theorem body_obligation (c : Dev nD) :
    BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow, dats_after]
  exact triple_restated (body_step m c t) rfl .rfl fun _ => .rfl

set_option backward.isDefEq.respectTransparency.types false in
set_option maxHeartbeats 800000 in
/-- The run of the whole program: it ends with the result array as the pipeline leaves it, the later host line done
    after it, and every semaphore counter at zero. -/
theorem run_program : θ_run defs (onTc (τ := τ) (main (F := F))) (s₀ m ρ) (fun r =>
    Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

/-- The same run, its result buffer named: it holds what the later host line leaves, and the arguments are as they were. -/
theorem run_result : θ_run defs (onTc (τ := τ) (main (F := F))) ⟨m, fun _ => 0, ρ⟩ (fun r => ∀ c : Dev nD,
      r.2.mem ((c.tc : Thread nD τ).loc main_v1)
          = Pipeline.afterTail₀ cfgs (dats m) 0 (V0 m) [hostOps1] c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c).2 main_v1 (Pipeline.mem_restRefs_of main_v1 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_program m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and ((θ_run defs _ _).mono (fun _ h c => (h c).2) (run_result m ρ))
    ((θ_run defs _ _).mono (fun _ h => h.2) (run_program m ρ))

end Cert.Proof.IdealFrame

end
-- ==== Proof.Zero.lean ====
/- Arithmetic over the extended reals that both programs use: a finite number less itself is zero, and so are the
   square, the root and the quotient that are built on it. -/
module

public import Idealize.ShloMosaic.PureOps.Ideal
public import Idealize.ShloMosaic.PureOps.Ideal.Laws
public import Idealize.ShloMosaic.Lib.IdealHost

@[expose] public section

noncomputable section

namespace Cert.Proof.Zero

open Idealize.ShloMosaic

/-- An extended real that is neither of the infinities. -/
def IsReal (x : EReal) : Prop := ∃ r : ℝ, x = (r : EReal)

/-- A real number is finite. -/
theorem isReal_coe (r : ℝ) : IsReal (r : EReal) := ⟨r, rfl⟩

/-- A sum of finite numbers is finite. -/
theorem IsReal.add {x y : EReal} : IsReal x → IsReal y → IsReal (x + y) := by
  rintro ⟨a, rfl⟩ ⟨b, rfl⟩; exact ⟨a + b, (EReal.coe_add a b).symm⟩

/-- A difference of finite numbers is finite. -/
theorem IsReal.sub {x y : EReal} : IsReal x → IsReal y → IsReal (x - y) := by
  rintro ⟨a, rfl⟩ ⟨b, rfl⟩; exact ⟨a - b, (EReal.coe_sub a b).symm⟩

/-- A product of finite numbers is finite. -/
theorem IsReal.mul {x y : EReal} : IsReal x → IsReal y → IsReal (x * y) := by
  rintro ⟨a, rfl⟩ ⟨b, rfl⟩; exact ⟨a * b, (EReal.coe_mul a b).symm⟩

/-- A quotient by a finite number that is not zero is finite. -/
theorem IsReal.div {x y : EReal} (h0 : y ≠ 0) : IsReal x → IsReal y → IsReal (Ideal.div x y) := by
  rintro ⟨a, rfl⟩ ⟨b, rfl⟩
  exact ⟨a * b⁻¹, by rw [Ideal.div, if_neg h0, ← EReal.coe_inv, EReal.coe_mul]⟩

/-- A finite number less itself is zero. -/
theorem IsReal.sub_self {x : EReal} : IsReal x → x - x = 0 := by
  rintro ⟨a, rfl⟩; rw [← EReal.coe_sub, _root_.sub_self, EReal.coe_zero]

/-- An integer read as a float is finite. -/
theorem isReal_sitofp {w : Nat} (b : BitVec w) : IsReal (FloatOps.sitofp (F := Ideal) .f32 b) := isReal_coe _

/-- A single-precision word whose exponent field is not all ones stands for a finite number. -/
theorem isReal_ofBits (b : BitVec 32) (h : (b.extractLsb' 23 8).toNat ≠ 255) : IsReal (Ideal.ofBits .f32 b) := by
  show IsReal (Ideal.ieee 8 23 b)
  unfold Ideal.ieee
  rw [if_neg (by simpa using h)]
  split
  · exact isReal_coe _
  · exact isReal_coe _

/-- The root of zero is zero. -/
theorem sqrt_zero : Ideal.sqrt 0 = 0 := by
  show (if (0 : ℝ) < 0 then (⊥ : EReal) else (Real.sqrt 0 : EReal)) = 0
  rw [if_neg (lt_irrefl _), Real.sqrt_zero, EReal.coe_zero]

/-- Zero over a number that is not zero is zero. -/
theorem zero_div {y : EReal} (h : y ≠ 0) : Ideal.div 0 y = 0 := by rw [Ideal.div, if_neg h, zero_mul]

/-- A single-precision word whose exponent field is neither zero nor all ones does not stand for zero. -/
theorem ofBits_ne_zero (b : BitVec 32) (h : (b.extractLsb' 23 8).toNat ≠ 255) (h0 : (b.extractLsb' 23 8).toNat ≠ 0) :
    Ideal.ofBits .f32 b ≠ 0 := by
  show Ideal.ieee 8 23 b ≠ 0
  unfold Ideal.ieee
  rw [if_neg (by simpa using h), if_neg h0]
  rw [Ne, EReal.coe_eq_zero]
  refine mul_ne_zero (mul_ne_zero ?_ ?_) (by positivity)
  · split <;> norm_num
  · positivity

end Cert.Proof.Zero

end
-- ==== Proof.KernelValue.lean ====
/- What the kernel computes over the extended reals: the square root of a sum of squares of differences of a table
   of finite numbers with itself, averaged over eight rows — zero. -/
module

public import proofs.«01_k».proof.Proof.IdealFrame
public import proofs.«01_k».proof.Proof.Zero
public import Idealize.ShloMosaic.Lib.Pipeline.ValueKit
public import Idealize.ShloMosaic.Lib.Pointwise

@[expose] public section

set_option maxRecDepth 16384

noncomputable section

namespace Cert.Proof.KernelValue

open Idealize.ShloMosaic Idealize.ShloMosaic.TcCoe Idealize.ShloMosaic.Tactic Idealize.SL.Sem
open Cert.KernelIdeal Cert.KernelIdeal.Gen Cert.Proof.IdealFrame Cert.Proof.Zero

/-- An entry of the kernel's table, an index times the step, less itself. -/
theorem entry_sub_self (b : BitVec 32) :
    FloatOps.sitofp (F := Ideal) .f32 b * Ideal.ofBits .f32 0x38000100#32
      - FloatOps.sitofp (F := Ideal) .f32 b * Ideal.ofBits .f32 0x38000100#32 = (0 : EReal) :=
  ((isReal_sitofp b).mul (isReal_ofBits _ (by decide))).sub_self

/-- The number that the body stores is zero: every difference is, so every chunk's sum of squares, every row's root and
    the mean over the rows. -/
theorem pay_eq_zero : k0_pay1 (F := Ideal) = (0 : EReal) := by
  unfold k0_pay1
  pointwise
  simp only [entry_sub_self, mul_zero, Finset.sum_const_zero, add_zero, Zero.sqrt_zero]
  exact Zero.zero_div (ofBits_ne_zero _ (by decide) (by decide))

variable (m : (ℓ : Loc nD τ sig) → Buf (Elt Ideal) ℓ) (ρ : Dev nD → PrngReg)

/-- The one grid point writes the whole result array, with the number that the body stores. -/
theorem launch_result (c : Dev nD) : (dats m 0 c).arrAt 0 cfg0.N = fun _ => (0 : EReal) := by
  refine (dats m 0 c).arrAt_eq_of_after_last 0 t0_0 (by decide +kernel) _ fun j => ?_
  blk_simp
  rw [dats_after]
  frame_out
  exact pay_eq_zero

/-- After the reshape that follows the launch the program's result is zero. -/
theorem result_eq_zero (c : Dev nD) :
    Pipeline.afterTail₀ cfgs (dats m) 0 (V0 m) [hostOps1] c main_v1 = fun _ => (0 : EReal) := by
  unfold Pipeline.afterTail₀
  simp only [List.flatten_cons, List.flatten_nil, List.append_nil]
  unfold hostOps1
  after_results_simp
  have harr : Pipeline.withArrays (cfgs 0).spec c (V0 m c) (fun w => (dats m 0 c).arrAt w (cfgs 0).N)
      (Proc.tc.devRef main_v0) = fun _ => (0 : EReal) :=
    (Pipeline.withArrays_arr spec0 winFacts0.arr_inj c (V0 m c) _ 0).trans (launch_result m c)
  rw [harr]
  rfl

/-- The whole kernel, over the extended reals: it ends with its result at zero and its arguments unchanged. -/
theorem run : θ_run defs (onTc (τ := τ) (main (F := Ideal))) ⟨m, fun _ => 0, ρ⟩ (fun r => ∀ c : Dev nD,
      r.2.mem ((c.tc : Thread nD τ).loc main_v1) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq_zero m c), (h c).2⟩) (run_result m ρ)

end Cert.Proof.KernelValue

end
-- ==== Proof.ReferenceValue.lean ====
/- What the reference computes over the extended reals: the two tables of evenly spaced numbers are one and the same
   finite table, so every difference is zero, and with it every row's distance and their mean. -/
module

public import proofs.«01_k».proof.Proof.Gen.ReferenceIdeal.Run
public import proofs.«01_k».proof.Proof.Zero
public import Idealize.ShloMosaic.Lib.Pointwise.SelectCore

@[expose] public section

set_option maxRecDepth 16384

noncomputable section

namespace Cert.Proof.ReferenceValue

open Idealize.ShloMosaic Idealize.ShloMosaic.TcCoe Idealize.ShloMosaic.Tactic Idealize.SL.Sem
open Cert.ReferenceIdeal Cert.ReferenceIdeal.Gen Cert.Proof.Zero

/-- The table's numbers before its last one, as the program builds them: `0 · (1 - i/32767) + 1 · (i/32767)` at
    position `i`. -/
def inner : FVec Ideal S32767 .f32 :=
  addf (mulf (broadcastInDim S32767 ![0] bcast_S1_S32767_0 (shapeCast _ (id (constant S_ .f32 0x00000000#32)) shapeCasts_S_S1))
      (subf (broadcastInDim S32767 ![] bcast_S_S32767 (constant S_ .f32 0x3F800000#32))
        (Host.divf (sitofp .f32 (iotaInDim S32767 32 0)) (broadcastInDim S32767 ![] bcast_S_S32767 (constant S_ .f32 0x46FFFE00#32)))))
    (mulf (broadcastInDim S32767 ![0] bcast_S1_S32767_0 (shapeCast _ (id (constant S_ .f32 0x3F800000#32)) shapeCasts_S_S1))
      (Host.divf (sitofp .f32 (iotaInDim S32767 32 0)) (broadcastInDim S32767 ![] bcast_S_S32767 (constant S_ .f32 0x46FFFE00#32))))

/-- The table of 32768 evenly spaced numbers from 0 to 1: the inner ones, then 1. -/
def spaced : FVec Ideal S32768 .f32 :=
  concatenate S32768 0 [⟨S32767, inner⟩, ⟨S1, broadcastInDim S1 ![] bcast_S_S1 (id (constant S_ .f32 0x3F800000#32))⟩]
    concatenates_S32767_S1_S32768_d0

/-- Each of the inner numbers is finite. -/
theorem inner_isReal (i : S32767.Idx) : IsReal (inner i) := by
  have h0 : IsReal (Ideal.ofBits .f32 0x00000000#32) := isReal_ofBits _ (by decide)
  have h1 : IsReal (Ideal.ofBits .f32 0x3F800000#32) := isReal_ofBits _ (by decide)
  have hq : IsReal (Ideal.div (FloatOps.sitofp (F := Ideal) .f32 (iotaInDim S32767 32 0 i)) (Ideal.ofBits .f32 0x46FFFE00#32)) :=
    IsReal.div (ofBits_ne_zero _ (by decide) (by decide)) (isReal_sitofp _) (isReal_ofBits _ (by decide))
  exact (h0.mul (h1.sub hq)).add (h1.mul hq)

/-- Every number of the table is finite. -/
theorem spaced_isReal (i : S32768.Idx) : IsReal (spaced i) := by
  unfold spaced
  refine concatenate_forall (P := IsReal) S32768 0
    [⟨S32767, inner⟩, ⟨S1, broadcastInDim S1 ![] bcast_S_S1 (id (constant (F := Ideal) S_ .f32 0x3F800000#32))⟩] concatenates_S32767_S1_S32768_d0 (fun p hp => ?_) i
  simp only [List.mem_cons, List.mem_nil_iff, or_false] at hp
  rcases hp with rfl | rfl
  · exact inner_isReal
  · exact fun _ => isReal_ofBits 0x3F800000#32 (by decide)

/-- A sum of zeros along any axes is zero. -/
theorem sum_zero {s t : Shape} {axes : List (Fin s.rank)} (h : s.ReducesTo axes t) (hs : 0 < S_.numel) :
    Host.reduceAdd (F := Ideal) (φ := .f32) (fun _ : s.Idx => (0 : EReal)) (constant S_ .f32 0x00000000#32) h hs
      = fun _ => (0 : EReal) := by
  funext j
  show Ideal.ofBits .f32 0x00000000#32 + ∑ i ∈ Finset.univ.filter (fun i => h.drop i = j), (0 : EReal) = 0
  rw [Finset.sum_const_zero, add_zero, Ideal.ofBits_zero_f32]

/-- The distance of each row's table to itself, averaged over the rows, is zero for every table of finite numbers. -/
theorem distance_self (x : FVec Ideal S128x32768 .f32) (hx : ∀ i, IsReal (x i)) :
    Host.divf (Host.reduceAdd (Host.sqrt (Host.reduceAdd (mulf (subf x x) (subf x x)) (constant S_ .f32 0x00000000#32)
        reducesTo_S128x32768_S128_d1 h_S_)) (constant S_ .f32 0x00000000#32) reducesTo_S128_S_d0 h_S_)
      (constant S_ .f32 0x43000000#32) = fun _ => (0 : EReal) := by
  have hd : mulf (subf x x) (subf x x) = fun _ => (0 : EReal) := by
    funext i
    show (x i - x i) * (x i - x i) = (0 : EReal)
    rw [(hx i).sub_self, mul_zero]
  have hr : Host.sqrt (F := Ideal) (φ := .f32) (fun _ : S128.Idx => (0 : EReal)) = fun _ => (0 : EReal) :=
    funext fun _ => Zero.sqrt_zero
  rw [hd, sum_zero, hr, sum_zero]
  exact funext fun _ => Zero.zero_div (ofBits_ne_zero 0x43000000#32 (by decide) (by decide))

variable (m : (ℓ : Loc nD τ sig) → Buf (Elt Ideal) ℓ) (ρ : Dev nD → PrngReg)

/-- The reference, over the extended reals: it ends with its result at zero and its arguments unchanged. -/
theorem run : θ_run defs (onTc (τ := τ) (main (F := Ideal))) ⟨m, fun _ => 0, ρ⟩ (fun r => ∀ c : Dev nD,
      r.2.mem ((c.tc : Thread nD τ).loc main_v13) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Cert.ReferenceIdeal.Value.run m ρ)
  have h0 := distance_self (broadcastInDim S128x32768 ![1] bcast_S32768_S128x32768_1 spaced) fun _ => spaced_isReal _
  unfold spaced inner at h0
  exact h0

end Cert.Proof.ReferenceValue

end
-- ==== Proof.lean ====
/- The certificate: the frames of the three programs, and that the kernel and the reference end with one and the same
   result over the extended reals, namely zero. -/
module

public import proofs.«01_k».proof.Defs
public import proofs.«01_k».proof.Proof.KernelFrame
public import proofs.«01_k».proof.Proof.KernelValue
public import proofs.«01_k».proof.Proof.ReferenceValue
public import proofs.«01_k».proof.Proof.Gen.ReferenceIdeal.Run
public import Idealize.ShloMosaic.Lib.Claim

@[expose] public section

noncomputable section

namespace Cert.Proof

open Idealize.ShloMosaic Idealize.SL.Sem

/-- The reference's frame: it is host operations only, none of which writes an argument, and it declares no semaphore. -/
theorem reference_frame : Cert.quiescent_ReferenceIdeal :=
  fun m ρ _ => (θ_run _ _ _).mono (fun r h => ⟨fun c => (h c).2, sem_eq_zero_of_no_sems (by decide) r.2⟩)
    (ReferenceValue.run m ρ)

/-- Kernel and reference end with the same result, zero, whatever the arguments. -/
theorem same_result : Cert.algebraic_KernelIdeal_ReferenceIdeal :=
  fun m ρ m' ρ' _ _ => ⟨fun _ _ => (0 : EReal), KernelValue.run m ρ, ReferenceValue.run m' ρ'⟩

/-- The five claims. -/
theorem claim : Cert.Claim := ⟨Cert.Kernel.Gen.facts, Cert.KernelIdeal.Gen.facts, Cert.ReferenceIdeal.Gen.facts,
  fun m ρ _ => KernelFrame.frame m ρ, fun m ρ _ => IdealFrame.frame m ρ, reference_frame, trivial, same_result⟩

end Cert.Proof

end
